-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x8192 : Shape := ⟨2, ![4096, 8192]⟩
abbrev S64 : Shape := ⟨1, ![64]⟩
abbrev S_ : Shape := ⟨0, ![]⟩
abbrev S8192x64 : Shape := ⟨2, ![8192, 64]⟩
abbrev S64x1 : Shape := ⟨2, ![64, 1]⟩
abbrev S64x2 : Shape := ⟨2, ![64, 2]⟩
abbrev S4096x64 : Shape := ⟨2, ![4096, 64]⟩
abbrev S256x8192 : Shape := ⟨2, ![256, 8192]⟩
abbrev S256x64 : Shape := ⟨2, ![256, 64]⟩

abbrev nBuf : Space → Nat
  | .hbm => 24
  | .vmem => 9
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S64, .i32⟩
  | .hbm, ⟨3, _⟩ => ⟨S64, .i1⟩
  | .hbm, ⟨4, _⟩ => ⟨S64, .i32⟩
  | .hbm, ⟨5, _⟩ => ⟨S64, .i1⟩
  | .hbm, ⟨6, _⟩ => ⟨S_, .f32⟩
  | .hbm, ⟨7, _⟩ => ⟨S8192x64, .f32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S64x1, .i32⟩
  | .hbm, ⟨17, _⟩ => ⟨S64x1, .i32⟩
  | .hbm, ⟨18, _⟩ => ⟨S64x2, .i32⟩
  | .hbm, ⟨19, _⟩ => ⟨S_, .f32⟩
  | .hbm, ⟨20, _⟩ => ⟨S64, .f32⟩
  | .hbm, ⟨21, _⟩ => ⟨S8192x64, .f32⟩
  | .hbm, ⟨22, _⟩ => ⟨S4096x64, .f32⟩
  | .hbm, ⟨23, _⟩ => ⟨S4096x64, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | .local _ .vmem, ⟨4, _⟩ => ⟨S8192x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S256x64, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_cst : Ref sig .tc := ⟨.hbm, 6, rfl⟩
abbrev main_v0 : Ref sig .tc := ⟨.hbm, 7, rfl⟩
abbrev main_c_3 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_4 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_5 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x8192 : Shape := ⟨2, ![4096, 8192]⟩
abbrev S_ : Shape := ⟨0, ![]⟩
abbrev S63 : Shape := ⟨1, ![63]⟩
abbrev S1 : Shape := ⟨1, ![1]⟩
abbrev S64 : Shape := ⟨1, ![64]⟩
abbrev S64x1 : Shape := ⟨2, ![64, 1]⟩
abbrev S1x1 : Shape := ⟨2, ![1, 1]⟩
abbrev S4096x64 : Shape := ⟨2, ![4096, 64]⟩

abbrev nBuf : Space → Nat
  | .hbm => 72
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S63, .f32⟩
  | .hbm, ⟨10, _⟩ => ⟨S_, .f32⟩
  | .hbm, ⟨11, _⟩ => ⟨S63, .f32⟩
  | .hbm, ⟨12, _⟩ => ⟨S63, .f32⟩
  | .hbm, ⟨13, _⟩ => ⟨S1, .f32⟩
  | .hbm, ⟨14, _⟩ => ⟨S_, .f32⟩
  | .hbm, ⟨15, _⟩ => ⟨S63, .f32⟩
  | .hbm, ⟨16, _⟩ => ⟨S63, .f32⟩
  | .hbm, ⟨17, _⟩ => ⟨S63, .f32⟩
  | .hbm, ⟨18, _⟩ => ⟨S63, .f32⟩
  | .hbm, ⟨19, _⟩ => ⟨S1, .f32⟩
  | .hbm, ⟨20, _⟩ => ⟨S63, .f32⟩
  | .hbm, ⟨21, _⟩ => ⟨S63, .f32⟩
  | .hbm, ⟨22, _⟩ => ⟨S63, .f32⟩
  | .hbm, ⟨23, _⟩ => ⟨S1, .f32⟩
  | .hbm, ⟨24, _⟩ => ⟨S64, .f32⟩
  | .hbm, ⟨25, _⟩ => ⟨S64, .i32⟩
  | .hbm, ⟨26, _⟩ => ⟨S_, .i32⟩
  | .hbm, ⟨27, _⟩ => ⟨S64, .i32⟩
  | .hbm, ⟨28, _⟩ => ⟨S64, .i1⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S64, .i32⟩
  | .hbm, ⟨33, _⟩ => ⟨S64x1, .i32⟩
  | .hbm, ⟨34, _⟩ => ⟨S1, .i32⟩
  | .hbm, ⟨35, _⟩ => ⟨S_, .i32⟩
  | .hbm, ⟨36, _⟩ => ⟨S64x1, .i32⟩
  | .hbm, ⟨37, _⟩ => ⟨S64x1, .i1⟩
  | .hbm, ⟨38, _⟩ => ⟨S1x1, .i32⟩
  | .hbm, ⟨39, _⟩ => ⟨S64x1, .i32⟩
  | .hbm, ⟨40, _⟩ => ⟨S64x1, .i1⟩
  | .hbm, ⟨41, _⟩ => ⟨S64x1, .i1⟩
  | .hbm, ⟨42, _⟩ => ⟨S_, .i1⟩
  | .hbm, ⟨43, _⟩ => ⟨S64, .i1⟩
  | .hbm, ⟨44, _⟩ => ⟨S4096x64, .f32⟩
  | .hbm, ⟨45, _⟩ => ⟨S4096x64, .i1⟩
  | .hbm, ⟨46, _⟩ => ⟨S_, .f32⟩
  | .hbm, ⟨47, _⟩ => ⟨S4096x64, .f32⟩
  | .hbm, ⟨48, _⟩ => ⟨S4096x64, .f32⟩
  | .hbm, ⟨49, _⟩ => ⟨S_, .i32⟩
  | .hbm, ⟨50, _⟩ => ⟨S64, .i32⟩
  | .hbm, ⟨51, _⟩ => ⟨S64, .i1⟩
  | .hbm, ⟨52, _⟩ => ⟨S_, .i32⟩
  | .hbm, ⟨53, _⟩ => ⟨S64, .i32⟩
  | .hbm, ⟨54, _⟩ => ⟨S64, .i32⟩
  | .hbm, ⟨55, _⟩ => ⟨S64, .i32⟩
  | .hbm, ⟨56, _⟩ => ⟨S64x1, .i32⟩
  | .hbm, ⟨57, _⟩ => ⟨S1, .i32⟩
  | .hbm, ⟨58, _⟩ => ⟨S_, .i32⟩
  | .hbm, ⟨59, _⟩ => ⟨S64x1, .i32⟩
  | .hbm, ⟨60, _⟩ => ⟨S64x1, .i1⟩
  | .hbm, ⟨61, _⟩ => ⟨S1x1, .i32⟩
  | .hbm, ⟨62, _⟩ => ⟨S64x1, .i32⟩
  | .hbm, ⟨63, _⟩ => ⟨S64x1, .i1⟩
  | .hbm, ⟨64, _⟩ => ⟨S64x1, .i1⟩
  | .hbm, ⟨65, _⟩ => ⟨S_, .i1⟩
  | .hbm, ⟨66, _⟩ => ⟨S64, .i1⟩
  | .hbm, ⟨67, _⟩ => ⟨S4096x64, .f32⟩
  | .hbm, ⟨68, _⟩ => ⟨S4096x64, .i1⟩
  | .hbm, ⟨69, _⟩ => ⟨S_, .f32⟩
  | .hbm, ⟨70, _⟩ => ⟨S4096x64, .f32⟩
  | .hbm, ⟨71, _⟩ => ⟨S4096x64, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v2 : Ref sig .tc := ⟨.hbm, 48, rfl⟩
abbrev main_call2_c : Ref sig .tc := ⟨.hbm, 49, rfl⟩
abbrev main_call2_v0 : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_c_1 : Ref sig .tc := ⟨.hbm, 57, rfl⟩
abbrev main_call2_c_2 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_3 : Ref sig .tc := ⟨.hbm, 65, rfl⟩
abbrev main_call2_v12 : Ref sig .tc := ⟨.hbm, 66, rfl⟩
abbrev main_call2_v13 : Ref sig .tc := ⟨.hbm, 67, rfl⟩
abbrev main_call2_v14 : Ref sig .tc := ⟨.hbm, 68, rfl⟩
abbrev main_call2_cst : Ref sig .tc := ⟨.hbm, 69, rfl⟩
abbrev main_call2_v15 : Ref sig .tc := ⟨.hbm, 70, rfl⟩
abbrev main_v3 : Ref sig .tc := ⟨.hbm, 71, rfl⟩

abbrev nD : Nat := 1
abbrev τ : Topo := Topo.v7x

variable {F : FTy → Type} [FloatOps F]
-- ==== Proof.Columns.lean ====
/-
  The reference, read at an index: its 64 evenly spaced positions over the extended reals, the integers they are truncated
  to (130·j for j < 63, and 8191 for j = 63), and the columns that `jnp.take` then reads.
-/
module

public import proofs.«01_k».proof.Proof.Gen.ReferenceIdeal.Run
public import Idealize.ShloMosaic.Lib.Pointwise
public import Idealize.ShloMosaic.Lib.ValueIdx
public import Idealize.ShloMosaic.Lib.ReduceAll
public import Idealize.ShloMosaic.Lib.Affine

@[expose] public section

set_option maxRecDepth 16384

noncomputable section

namespace Cert.ReferenceIdeal.Take

open Cert.ReferenceIdeal Cert.ReferenceIdeal.Gen Idealize.ShloMosaic Idealize.ShloMosaic.TcCoe Idealize.SL.Sem

/-- The column that result column `j` is taken from: ⌊8191·j/63⌋, which is `130·j` for `j < 63` and 8191 for `j = 63`. -/
def col (j : ℕ) : ℕ := 130 * j + j / 63

/-- A taken column is a column of the argument. -/
theorem col_lt {j : ℕ} (h : j < 64) : col j < 8192 := by unfold col; omega

/-- j/63 for j = 0, …, 62. -/
def step : FVec Ideal S63 .f32 :=
  Host.divf (sitofp .f32 (iotaInDim S63 32 0)) (broadcastInDim S63 ![] bcast_S_S63 (constant S_ .f32 0x427C0000#32))

/-- The first 63 positions, 0·(1 − j/63) + 8191·(j/63). -/
def inner : FVec Ideal S63 .f32 :=
  addf (mulf (broadcastInDim S63 ![0] bcast_S1_S63_0 (shapeCast _ (id (constant S_ .f32 0x00000000#32)) shapeCasts_S_S1))
      (subf (broadcastInDim S63 ![] bcast_S_S63 (constant S_ .f32 0x3F800000#32)) step))
    (mulf (broadcastInDim S63 ![0] bcast_S1_S63_0 (shapeCast _ (id (constant S_ .f32 0x45FFF800#32)) shapeCasts_S_S1)) step)

/-- The last position, 8191. -/
def last : FVec Ideal S1 .f32 := broadcastInDim S1 ![] bcast_S_S1 (id (constant S_ .f32 0x45FFF800#32))

/-- The 64 positions. -/
def positions : FVec Ideal S64 .f32 := concatenate S64 0 [⟨S63, inner⟩, ⟨S1, last⟩] concatenates_S63_S1_S64_d0

/-- The positions truncated to integers. -/
def index : IVec S64 32 := fptosi 32 positions

/-- The integers after `jnp.take`'s wrapping of negative ones, as a column of start indices. -/
def starts : IVec S64x1 32 :=
  broadcastInDim S64x1 ![0] bcast_S64_S64x1_0
    (select (cmpi .slt index (broadcastInDim S64 ![] bcast_S_S64 (constantI S_ 32 0#32)))
      (addi index (broadcastInDim S64 ![] bcast_S_S64 (constantI S_ 32 8192#32))) index)

/-- `jnp.take`'s mask: which start indices are inside the axis. -/
def inside : IVec S64 1 :=
  Host.reduce IntOp.andi (andi (cmpi .sge starts (broadcastInDim S64x1 ![] bcast_S_S64x1 (constantI S_ 32 0#32)))
    (cmpi .sle starts (broadcastInDim S64x1 ![0, 1] bcast_S1x1_S64x1_0_1 (broadcastInDim S1x1 ![1] bcast_S1_S1x1_1 (constantI S1 32 8191#32)))))
    (constantI S_ 1 1#1) reducesTo_S64x1_S64_d1 h_S_

/-- What the reference computes of one argument. -/
def taken (x : FVec Ideal S4096x8192 .f32) : FVec Ideal S4096x64 .f32 :=
  select (broadcastInDim S4096x64 ![1] bcast_S64_S4096x64_1 inside)
    (Host.gather gather_S4096x8192_S64x1_S4096x64_0_1_n_n_1_1_40961 x starts)
    (broadcastInDim S4096x64 ![] bcast_S_S4096x64 (constant S_ .f32 0x7FC00000#32))

/-- The reference's first result is `taken` of its first argument, -/
theorem res0_eq (m : (ℓ : Loc nD τ sig) → Buf (Elt Ideal) ℓ) (c : Dev nD) :
    Value.res_out0 m c = taken (m ((c.tc : Thread nD τ).loc main_arg0)) := rfl

/-- and its second of its second. -/
theorem res1_eq (m : (ℓ : Loc nD τ sig) → Buf (Elt Ideal) ℓ) (c : Dev nD) :
    Value.res_out1 m c = taken (m ((c.tc : Thread nD τ).loc main_arg1)) := rfl

/-- The word of 63. -/
theorem word63 : Ideal.ofBits .f32 0x427C0000#32 = ((63 : ℝ) : EReal) := by
  simp [Ideal.ofBits, Ideal.ieee]; norm_cast; norm_num

/-- The word of 8191. -/
theorem word8191 : Ideal.ofBits .f32 0x45FFF800#32 = ((8191 : ℝ) : EReal) := by
  simp [Ideal.ofBits, Ideal.ieee]; norm_cast; norm_num

/-- A small number read back from its word. -/
theorem toInt_small {n : ℕ} (h : n < 8192) : (BitVec.ofNat 32 n).toInt = (n : ℤ) := by
  rw [BitVec.toInt_eq_toNat_of_lt (by rw [BitVec.toNat_ofNat]; omega), BitVec.toNat_ofNat, Nat.mod_eq_of_lt (by omega)]

/-- The quotients are the exact ones. -/
theorem step_apply (j : Fin 63) : step (ix1 j) = ((j.val / 63 : ℝ) : EReal) := by
  unfold step
  pointwise
  rw [word63]
  show Ideal.div (((BitVec.ofNat 32 j.val).toInt : ℝ) : EReal) _ = _
  rw [toInt_small (by omega), Ideal.div, if_neg (by norm_cast), ← EReal.coe_inv, ← EReal.coe_mul, div_eq_mul_inv]
  norm_cast

/-- The first 63 positions: the product with 0 drops out. -/
theorem inner_apply (j : Fin 63) : inner (ix1 j) = ((8191 * (j.val / 63) : ℝ) : EReal) := by
  unfold inner
  pointwise [step_apply]
  show Ideal.ofBits .f32 0x00000000#32 * _ + Ideal.ofBits .f32 0x45FFF800#32 * _ = _
  rw [Ideal.ofBits_zero_f32, word8191, zero_mul, zero_add, ← EReal.coe_mul]

/-- The last position. -/
theorem last_apply (j : Fin 1) : last (ix1 j) = ((8191 : ℝ) : EReal) := by
  unfold last
  pointwise
  exact word8191

/-- All 64 positions. -/
theorem positions_apply (j : Fin 64) : positions (ix1 j) = ((8191 * (j.val / 63) : ℝ) : EReal) := by
  unfold positions
  pointwise
  split
  · rw [inner_apply]
  · rw [last_apply, show j.val = 63 by omega]
    norm_num

/-- The whole part of position `j` is the column `col j`. -/
theorem floor_position (j : Fin 64) : ⌊(8191 * (j.val / 63) : ℝ)⌋ = (col j.val : ℤ) := by
  have hj := j.isLt
  have e : (63 * col j.val : ℕ) ≤ 8191 * j.val ∧ 8191 * j.val < 63 * (col j.val + 1) := by unfold col; omega
  rw [Int.floor_eq_iff]
  have h1 : (63 * col j.val : ℝ) ≤ 8191 * j.val := by exact_mod_cast e.1
  have h2 : (8191 * j.val : ℝ) < 63 * (col j.val + 1) := by exact_mod_cast e.2
  push_cast
  constructor <;> linarith

/-- The truncated positions are the columns. -/
theorem index_apply (j : Fin 64) : index (ix1 j) = BitVec.ofNat 32 (col j.val) := by
  unfold index
  pointwise [positions_apply]
  show Ideal.fptosi 32 _ = _
  have h := col_lt j.isLt
  rw [Ideal.fptosi, Ideal.toIntClamped_coe, if_pos (by positivity), floor_position]
  rw [min_eq_right (by norm_num; omega), max_eq_right (by norm_num)]
  exact BitVec.ofInt_natCast _ _

/-- No column is negative, so none is wrapped. -/
theorem starts_apply (j : Fin 64) (z : Fin 1) : starts (ix2 j z) = BitVec.ofNat 32 (col j.val) := by
  unfold starts
  pointwise [index_apply]
  have h := col_lt j.isLt
  refine if_neg (c := _ = 1#1) ?_
  rw [IntOp.cmpi_slt, toInt_small h]
  simp

/-- Every column is inside the axis. -/
theorem inside_apply (j : Fin 64) : inside (ix1 j) = 1#1 := by
  unfold inside
  refine Host.reduce_andi_one _ _ _ _ _ rfl fun i => ?_
  obtain ⟨k, z, rfl⟩ : ∃ (k : Fin 64) (z : Fin 1), i = ix2 k z := ⟨_, _, eq_ix2 i⟩
  have h := col_lt k.isLt
  show IntOp.andi (IntOp.cmpi .sge (starts (ix2 k z)) 0#32) (IntOp.cmpi .sle (starts (ix2 k z)) 8191#32) = 1#1
  rw [starts_apply, IntOp.cmpi_sge.mpr (by rw [toInt_small h]; simp),
    IntOp.cmpi_sle.mpr (by rw [toInt_small h, toInt_small (by norm_num)]; omega)]
  rfl

/-- The gather down the columns, read at an index: row `r` of the operand at the start index of result column `j`. -/
theorem gather_apply (x : FVec Ideal S4096x8192 .f32) (s : IVec S64x1 32) (r : Fin 4096) (j : Fin 64) :
    Host.gather gather_S4096x8192_S64x1_S4096x64_0_1_n_n_1_1_40961 x s (ix2 r j)
      = x (ix2 r ⟨min (s (ix2 j 0)).toInt.toNat 8191, by omega⟩) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil, Nat.add_zero]
  match a with
  | ⟨0, _⟩ =>
    -- the row axis is kept whole: no start index, and the offset is the result's row
    have e : GatherDims.start gather_S4096x8192_S64x1_S4096x64_0_1_n_n_1_1_40961 (ix2 r j) s (0 : Fin 2) = 0 := by
      unfold GatherDims.start; exact dif_neg (by decide)
    refine (congrArg (· + _) e).trans ((Nat.zero_add _).trans ?_)
    unfold GatherDims.offCoord
    exact (dif_pos (show (0 : Fin 2) ∈ GatherDims.sKept gather_S4096x8192_S64x1_S4096x64_0_1_n_n_1_1_40961 by decide)).trans rfl
  | ⟨1, _⟩ =>
    -- the column axis is collapsed: the clamped start index, and no offset
    have e : GatherDims.offCoord gather_S4096x8192_S64x1_S4096x64_0_1_n_n_1_1_40961 (ix2 r j) (1 : Fin 2) = 0 := by
      unfold GatherDims.offCoord; exact dif_neg (by decide)
    refine (congrArg (_ + ·) e).trans ((Nat.add_zero _).trans ?_)
    unfold GatherDims.start
    refine (dif_pos (show (1 : Fin 2) ∈ GatherDims.startIndexMap gather_S4096x8192_S64x1_S4096x64_0_1_n_n_1_1_40961 by decide)).trans ?_
    show min (s _).toInt.toNat 8191 = min (s _).toInt.toNat 8191
    congr 4
    funext b
    refine Fin.ext ?_
    match b with
    | ⟨0, _⟩ => rfl
    | ⟨1, _⟩ => rfl

/-- The reference's result: column `j` is column `col j` of the argument. -/
theorem taken_apply (x : FVec Ideal S4096x8192 .f32) (r : Fin 4096) (j : Fin 64) :
    taken x (ix2 r j) = x (ix2 r ⟨col j.val, col_lt j.isLt⟩) := by
  unfold taken
  pointwise [inside_apply]
  have h := col_lt j.isLt
  rw [gather_apply]
  congr 2
  refine Fin.ext ?_
  show min (starts (ix2 j 0)).toInt.toNat 8191 = col j.val
  rw [starts_apply, toInt_small h]
  omega

end Cert.ReferenceIdeal.Take

end
-- ==== Proof.Sel.lean ====
/-
  The matrix that the host code scatters ones into, as a one-hot matrix: entry (k, j) is 1 when `k` is the column `col j`,
  and 0 otherwise.
-/
module

public import proofs.«01_k».proof.Proof.Columns
public import proofs.«01_k».proof.Proof.Gen.KernelIdeal
public import Idealize.ShloMosaic.Lib.Routing.OpsSet
public import Idealize.ShloMosaic.Lib.Routing.OpsPair

@[expose] public section

set_option maxRecDepth 16384

noncomputable section

namespace Cert.KernelIdeal.Sel

open Cert.KernelIdeal Cert.KernelIdeal.Gen Idealize.ShloMosaic
open Cert.ReferenceIdeal.Take (col col_lt toInt_small)

/-- The rows of the ones: the 64 constants, with the wrapping of negative ones that is never taken. -/
def rows : IVec S64 32 :=
  select (constantI S64 1 0#1)
    (addi (fun i => lit0 (S64.rowMajor i)) (broadcastInDim S64 ![] bcast_S_S64 (constantI S_ 32 8192#32)))
    (fun i => lit0 (S64.rowMajor i))

/-- The columns of the ones: 0, …, 63, likewise. -/
def cols : IVec S64 32 :=
  select (constantI S64 1 0#1)
    (addi (fun i => lit1 (S64.rowMajor i)) (broadcastInDim S64 ![] bcast_S_S64 (constantI S_ 32 64#32)))
    (fun i => lit1 (S64.rowMajor i))

/-- The positions of the ones, a pair (row, column) to each. -/
def spots : IVec S64x2 32 :=
  concatenate S64x2 1 [⟨S64x1, broadcastInDim S64x1 ![0] bcast_S64_S64x1_0 rows⟩,
    ⟨S64x1, broadcastInDim S64x1 ![0] bcast_S64_S64x1_0 cols⟩] concatenates_S64x1_S64x1_S64x2_d1

/-- The matrix: zeros, with a one set at each of the 64 positions. -/
def sel : FVec Ideal S8192x64 .f32 :=
  Host.scatter scatter_S8192x64_S64x2_S64_n_01_01_1 (fun _ b => b)
    (broadcastInDim S8192x64 ![] bcast_S_S8192x64 (constant S_ .f32 0x00000000#32)) spots
    (broadcastInDim S64 ![] bcast_S_S64 (constant S_ .f32 0x3F800000#32))

/-- The constant rows are the taken columns, -/
theorem lit0_col : ∀ j : Fin 64, lit0 j = BitVec.ofNat 32 (col j.val) := by decide +kernel

/-- and the constant columns count from 0 to 63. -/
theorem lit1_self : ∀ j : Fin 64, lit1 j = BitVec.ofNat 32 j.val := by decide +kernel

/-- Entry `j` of a list of 64 is at number `j`. -/
theorem number_eq (j : Fin 64) : S64.rowMajor (ix1 j) = j := Fin.ext (rowMajor_val1 (ix1 j))

/-- Position `j` has row `col j` -/
theorem rows_apply (j : Fin 64) : rows (ix1 j) = BitVec.ofNat 32 (col j.val) :=
  (congrArg lit0 (number_eq j)).trans (lit0_col j)

/-- and column `j`. -/
theorem cols_apply (j : Fin 64) : cols (ix1 j) = BitVec.ofNat 32 j.val :=
  (congrArg lit1 (number_eq j)).trans (lit1_self j)

/-- The first component of a position, -/
theorem spots_row (j : Fin 64) : spots (ix2 j 0) = BitVec.ofNat 32 (col j.val) := by
  unfold spots
  pointwise [rows_apply]

/-- and the second. -/
theorem spots_col (j : Fin 64) : spots (ix2 j 1) = BitVec.ofNat 32 j.val := by
  unfold spots
  pointwise [cols_apply]

/-- The row that update `q` starts from. -/
theorem start_row (q : Fin 64) (s : IVec S64x2 32) :
    ScatterDims.start scatter_S8192x64_S64x2_S64_n_01_01_1 (ix1 q) s (0 : Fin 2) = (s (ix2 q 0)).toInt := by
  unfold ScatterDims.start
  refine (dif_pos (show (0 : Fin 2) ∈ ScatterDims.scatterDimsToOperandDims scatter_S8192x64_S64x2_S64_n_01_01_1 by decide)).trans ?_
  refine congrArg (fun i => (s i).toInt) ?_
  funext b
  refine Fin.ext ?_
  match b with
  | ⟨0, _⟩ => rfl
  | ⟨1, _⟩ => rfl

/-- The column that update `q` starts from. -/
theorem start_col (q : Fin 64) (s : IVec S64x2 32) :
    ScatterDims.start scatter_S8192x64_S64x2_S64_n_01_01_1 (ix1 q) s (1 : Fin 2) = (s (ix2 q 1)).toInt := by
  unfold ScatterDims.start
  refine (dif_pos (show (1 : Fin 2) ∈ ScatterDims.scatterDimsToOperandDims scatter_S8192x64_S64x2_S64_n_01_01_1 by decide)).trans ?_
  refine congrArg (fun i => (s i).toInt) ?_
  funext b
  refine Fin.ext ?_
  match b with
  | ⟨0, _⟩ => rfl
  | ⟨1, _⟩ => rfl

/-- An update is one entry: it has no extent along either axis. -/
theorem window_zero (q : Fin 64) : ∀ a : Fin 2, ScatterDims.window scatter_S8192x64_S64x2_S64_n_01_01_1 (ix1 q) a = 0 := by
  intro a
  unfold ScatterDims.window
  exact dif_neg ((by decide : ∀ a : Fin 2, a ∉ ScatterDims.sKept scatter_S8192x64_S64x2_S64_n_01_01_1) a)

/-- Update `q` lands on (`col q`, `q`) and nowhere else. -/
theorem lands_iff (q : Fin 64) (k : Fin 8192) (j : Fin 64) :
    ScatterDims.resultIdx? scatter_S8192x64_S64x2_S64_n_01_01_1 (ix1 q) spots = some (ix2 k j) ↔ k.val = col q.val ∧ j = q := by
  rw [Routing.resultIdx?_eq_some]
  have hq := q.isLt
  have e0 : ScatterDims.start scatter_S8192x64_S64x2_S64_n_01_01_1 (ix1 q) spots (0 : Fin 2) = (col q.val : ℤ) := by
    rw [start_row, spots_row, toInt_small (col_lt hq)]
  have e1 : ScatterDims.start scatter_S8192x64_S64x2_S64_n_01_01_1 (ix1 q) spots (1 : Fin 2) = (q.val : ℤ) := by
    rw [start_col, spots_col, toInt_small (by omega)]
  constructor
  · intro h
    have h0 : _ = (k.val : ℤ) := h (0 : Fin 2)
    have h1 : _ = (j.val : ℤ) := h (1 : Fin 2)
    rw [window_zero, e0] at h0
    rw [window_zero, e1] at h1
    exact ⟨by omega, Fin.ext (by omega)⟩
  · rintro ⟨h, rfl⟩ a
    rw [window_zero]
    match a with
    | ⟨0, _⟩ => exact (congrArg (· + _) e0).trans (by show (col j.val : ℤ) + _ = (k.val : ℤ); omega)
    | ⟨1, _⟩ => exact (congrArg (· + _) e1).trans (by show (j.val : ℤ) + _ = (j.val : ℤ); omega)

/-- The matrix's entry at row `k` and column `j`. -/
theorem sel_entry (k : Fin 8192) (j : Fin 64) :
    sel (ix2 k j) = if k.val = col j.val then (1 : EReal) else (0 : EReal) := by
  unfold sel
  by_cases h : k.val = col j.val
  · rw [if_pos h]
    refine Routing.scatter_set_hit _ _ _ _ _ _ (fun q _ => ?_) (ix1 j) ((lands_iff j k j).mpr ⟨h, rfl⟩)
    exact Ideal.ofBits_one_f32
  · rw [if_neg h]
    refine (Routing.scatter_set_miss _ _ _ _ _ fun q hq => h ?_).trans Ideal.ofBits_zero_f32
    obtain ⟨p, rfl⟩ : ∃ p : Fin 64, q = ix1 p := ⟨_, eq_ix1 q⟩
    obtain ⟨hk, rfl⟩ := (lands_iff p k j).mp hq
    exact hk

end Cert.KernelIdeal.Sel

end
-- ==== Proof.Array.lean ====
/-
  The kernel's two output arrays after the run: column `j` of each is column `col j` of its argument.
-/
module

public import proofs.«01_k».proof.Proof.Sel
public import proofs.«01_k».proof.Proof.Gen.KernelIdeal.Value
public import Idealize.ShloMosaic.Lib.Pipeline.ValueKit
public import Idealize.ShloMosaic.Lib.Claim
public import Idealize.ShloMosaic.Lib.MatmulPlain

@[expose] public section

set_option maxRecDepth 16384

noncomputable section

namespace Cert.KernelIdeal.Taken

open Cert.KernelIdeal Cert.KernelIdeal.Gen Idealize.ShloMosaic Idealize.ShloMosaic.TcCoe Idealize.SL.Sem
open Idealize.ShloMosaic.Pipeline (Dat)
open Cert.ReferenceIdeal.Take (col col_lt)
open Cert.KernelIdeal.Sel (sel sel_entry)

variable (m : (ℓ : Loc nD τ sig) → Buf (Elt Ideal) ℓ)

/-- The block indices of the five windows at a grid point. -/
theorem index_eq : ∀ t : Fin cfg0.N, win0_0.index t = ![t.val, 0] ∧ win0_1.index t = ![t.val, 0] ∧ win0_2.index t = ![0, 0]
    ∧ win0_3.index t = ![t.val, 0] ∧ win0_4.index t = ![t.val, 0] :=
  (by decide +kernel : ∀ t : Fin grid0.N, win0_0.index t = ![t.val, 0] ∧ win0_1.index t = ![t.val, 0] ∧ win0_2.index t = ![0, 0]
    ∧ win0_3.index t = ![t.val, 0] ∧ win0_4.index t = ![t.val, 0])

/-- An argument with its columns `col j` taken. -/
def pickCols (x : FVec Ideal S4096x8192 .f32) : FVec Ideal S4096x64 .f32 :=
  fun i => x (ix2 (i 0) ⟨col (i 1).val, col_lt (i 1).isLt⟩)

/-- A sum over the columns against the one-hot column `j` is the entry at `col j`; no entry need be finite. -/
theorem sum_hot (f s : Fin 8192 → EReal) (j : Fin 64) (hs : ∀ k : Fin 8192, s k = if k.val = col j.val then 1 else 0) :
    ∑ k, f k * s k = f ⟨col j.val, col_lt j.isLt⟩ := by
  rw [Finset.sum_eq_single ⟨col j.val, col_lt j.isLt⟩]
  · rw [hs, if_pos rfl, mul_one]
  · intro k _ hk
    rw [hs, if_neg (fun h => hk (Fin.ext h)), mul_zero]
  · exact fun h => absurd (Finset.mem_univ _) h

/-- The body's product of a block with a one-hot matrix, read at an index. -/
theorem product_apply (x : FVec Ideal S256x8192 .f32) (s : FVec Ideal S8192x64 .f32) (r : Fin 256) (j : Fin 64)
    (hs : ∀ k : Fin 8192, s (ix2 k j) = if k.val = col j.val then (1 : EReal) else (0 : EReal)) :
    matmul dot_S256x8192_S8192x64_S256x64_1_0_0_1_n_n none x s (constant S256x64 .f32 0x00000000#32) (ix2 r j)
      = x (ix2 r ⟨col j.val, col_lt j.isLt⟩) := by
  refine (Ideal.matmul_plain_apply none x s _ r j).trans ?_
  rw [constant_apply, Ideal.ofBits_def, Ideal.ofBits_zero_f32, zero_add]
  exact sum_hot (fun k => x (ix2 r k)) (fun k => s (ix2 k j)) j hs

/-- What the body stores into the first output's block, read at an index, -/
theorem stored_first (x : FVec Ideal S256x8192 .f32) (s : FVec Ideal S8192x64 .f32) (r : Fin 256) (j : Fin 64)
    (hs : ∀ k : Fin 8192, s (ix2 k j) = if k.val = col j.val then (1 : EReal) else (0 : EReal)) :
    k0_pay2 s x (ix2 r j) = x (ix2 r ⟨col j.val, col_lt j.isLt⟩) := by
  unfold k0_pay2 k0_pay1
  rw [shapeCast_self]
  exact product_apply x s r j hs

/-- and into the second's. -/
theorem stored_second (x : FVec Ideal S256x8192 .f32) (s : FVec Ideal S8192x64 .f32) (r : Fin 256) (j : Fin 64)
    (hs : ∀ k : Fin 8192, s (ix2 k j) = if k.val = col j.val then (1 : EReal) else (0 : EReal)) :
    k0_pay3 s x (ix2 r j) = x (ix2 r ⟨col j.val, col_lt j.isLt⟩) := by
  unfold k0_pay3 k0_pay1
  rw [shapeCast_self]
  exact product_apply x s r j hs

/-- The one-hot matrix as every grid point finds it. -/
theorem sel_apply (c : Dev nD) (t : Fin cfg0.N) (k : Fin 8192) (j : Fin 64) :
    iblk m c 2 t (ix2 k j) = if k.val = col j.val then (1 : EReal) else (0 : EReal) := by
  refine Eq.trans ?_ (sel_entry k j)
  blk_simp [iblk]
  entry_read
  refine congrArg sel ?_
  blk_ext [(index_eq t).2.2.1]

/-- The block a grid point reads of the first argument: its rows from `256·t`. -/
theorem block0_apply (c : Dev nD) (t : Fin cfg0.N) (r : Fin 256) (k : Fin 8192) (R : Fin 4096) (hR : R.val = 256 * t.val + r.val) :
    iblk m c 0 t (ix2 r k) = m ((c : Thread nD τ).loc main_arg0) (ix2 R k) := by
  blk_ext [iblk, V, (index_eq t).1]

/-- The same of the second argument. -/
theorem block1_apply (c : Dev nD) (t : Fin cfg0.N) (r : Fin 256) (k : Fin 8192) (R : Fin 4096) (hR : R.val = 256 * t.val + r.val) :
    iblk m c 1 t (ix2 r k) = m ((c : Thread nD τ).loc main_arg1) (ix2 R k) := by
  blk_ext [iblk, V, (index_eq t).2.1]

/-- The first output array after the run. -/
theorem array3 (c : Dev nD) : (dats m 0 c).arrAt 3 cfg0.N = pickCols (m ((c : Thread nD τ).loc main_arg0)) := by
  refine (dats m 0 c).arrAt_eq_of_covers 3 _ (by decide +kernel) fun t hf y => ?_
  blk_simp
  rw [after0_3]
  frame_out
  obtain ⟨r, j, rfl⟩ : ∃ (r : Fin 256) (j : Fin 64), y = ix2 r j := ⟨_, _, eq_ix2 y⟩
  refine (stored_first (iblk m c 0 t) (iblk m c 2 t) r j fun k => sel_apply m c t k j).trans ?_
  have ht : t.val < 16 := t.isLt
  refine (block0_apply m c t r _ ⟨256 * t.val + r.val, by omega⟩ rfl).trans ?_
  unfold pickCols
  blk_ext [(index_eq t).2.2.2.1]

/-- The second output array after the run. -/
theorem array4 (c : Dev nD) : (dats m 0 c).arrAt 4 cfg0.N = pickCols (m ((c : Thread nD τ).loc main_arg1)) := by
  refine (dats m 0 c).arrAt_eq_of_covers 4 _ (by decide +kernel) fun t hf y => ?_
  blk_simp
  rw [after0_4]
  frame_out
  obtain ⟨r, j, rfl⟩ : ∃ (r : Fin 256) (j : Fin 64), y = ix2 r j := ⟨_, _, eq_ix2 y⟩
  refine (stored_second (iblk m c 1 t) (iblk m c 2 t) r j fun k => sel_apply m c t k j).trans ?_
  have ht : t.val < 16 := t.isLt
  refine (block1_apply m c t r _ ⟨256 * t.val + r.val, by omega⟩ rfl).trans ?_
  unfold pickCols
  blk_ext [(index_eq t).2.2.2.2]

end Cert.KernelIdeal.Taken

end
-- ==== Proof.lean ====
/-
  The claims, assembled. The two frames of the kernel are its generated ones; the reference's is its generated run and the
  fact that it has no semaphore. The algebraic claim sets the kernel's output arrays (Proof/Array.lean) beside the
  reference's results (Proof/Columns.lean): both take column `col j` of the argument into column `j`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem
open Cert.KernelIdeal.Taken (pickCols array3 array4)
open Cert.ReferenceIdeal.Take (taken taken_apply res0_eq res1_eq)

/-- The reference takes the columns that the kernel's one-hot product takes. -/
theorem taken_eq (x : FVec Ideal Cert.ReferenceIdeal.S4096x8192 .f32) : taken x = pickCols x := by
  funext i
  obtain ⟨r, j, rfl⟩ : ∃ (r : Fin 4096) (j : Fin 64), i = ix2 r j := ⟨_, _, eq_ix2 i⟩
  exact taken_apply x r j

/-- The kernel as compiled terminates without a fault, keeps its arguments and leaves every counter at zero. -/
theorem frame_kernel : Cert.quiescent_Kernel := fun m ρ _ => Cert.Kernel.Gen.frame m ρ

/-- So does the kernel over the extended reals, -/
theorem frame_ideal : Cert.quiescent_KernelIdeal := fun m ρ _ => Cert.KernelIdeal.Gen.frame m ρ

/-- and so does the reference. -/
theorem frame_reference : Cert.quiescent_ReferenceIdeal := fun m ρ _ =>
  (θ_run Cert.ReferenceIdeal.defs _ _).mono
    (fun r h => ⟨fun c => ⟨(h c).2.2.1, (h c).2.2.2⟩, sem_eq_zero_of_no_sems (by decide) r.2⟩)
    (Cert.ReferenceIdeal.Value.run (F := Ideal) m ρ)

/-- Both results of the kernel are the reference's, over the extended reals. -/
theorem results : Cert.algebraic_KernelIdeal_ReferenceIdeal := by
  intro m ρ m' ρ' _ hagree
  refine ⟨fun c => pickCols (m ((c.tc : Thread Cert.KernelIdeal.nD Cert.KernelIdeal.τ).loc Cert.KernelIdeal.main_arg0)),
    fun c => pickCols (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (array3 m c), (h c).2.1.trans (array4 m c), (h c).2.2⟩)
      (Cert.KernelIdeal.Value.run_blocks (F := Ideal) m ρ)
  · refine (θ_run Cert.ReferenceIdeal.defs _ _).mono (fun _ h c => ⟨?_, ?_, (h c).2.2⟩)
      (Cert.ReferenceIdeal.Value.run (F := Ideal) m' ρ')
    · exact ((h c).1.trans (res0_eq m' c)).trans ((taken_eq _).trans (congrArg pickCols (hagree c).1))
    · exact ((h c).2.1.trans (res1_eq m' c)).trans ((taken_eq _).trans (congrArg pickCols (hagree c).2))

/-- All five claims. -/
theorem claim : Cert.Claim := ⟨Cert.Kernel.Gen.facts, Cert.KernelIdeal.Gen.facts, Cert.ReferenceIdeal.Gen.facts,
  frame_kernel, frame_ideal, frame_reference, trivial, results⟩

end Cert.Proof

end
